-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_first_cell [hPre_in_first_cell : Cert.Pre_in_first_cell.Facts] (m : (ℓ : Loc Cert.KernelIdeal.nD Cert.KernelIdeal.τ Cert.KernelIdeal.sig) → Buf (Elt Ideal) ℓ) : Prop :=
  ∀ c : Dev Cert.KernelIdeal.nD,
    (Cert.Pre_in_first_cell.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_first_cell [hPre_in_first_cell : Cert.Pre_in_first_cell.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_first_cell.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_first_cell [hKernelIdeal : Cert.KernelIdeal.Facts] [hPre_in_first_cell : Cert.Pre_in_first_cell.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_first_cell m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_first_cell [hReferenceIdeal : Cert.ReferenceIdeal.Facts] [hPre_in_first_cell : Cert.Pre_in_first_cell.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_first_cell m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_first_cell [hKernelIdeal : Cert.KernelIdeal.Facts] [hReferenceIdeal : Cert.ReferenceIdeal.Facts] [hPre_in_first_cell : Cert.Pre_in_first_cell.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_first_cell m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_first_cell : Cert.Pre_in_first_cell.Facts),
    quiescent_Kernel (hKernel := hKernel)
    ∧ quiescent_KernelIdeal (hKernelIdeal := hKernelIdeal)
    ∧ quiescent_KernelIdeal_pre_in_first_cell (hKernelIdeal := hKernelIdeal) (hPre_in_first_cell := hPre_in_first_cell)
    ∧ quiescent_ReferenceIdeal (hReferenceIdeal := hReferenceIdeal)
    ∧ quiescent_ReferenceIdeal_pre_in_first_cell (hReferenceIdeal := hReferenceIdeal) (hPre_in_first_cell := hPre_in_first_cell)
    ∧ preserves_Kernel_KernelIdeal
    ∧ algebraic_KernelIdeal_ReferenceIdeal_pre_in_first_cell (hKernelIdeal := hKernelIdeal) (hReferenceIdeal := hReferenceIdeal) (hPre_in_first_cell := hPre_in_first_cell)
-- ==== Pre_in_first_cell.lean ====
abbrev S4x96x384x384 : Shape := ⟨4, ![4, 96, 384, 384]⟩
abbrev S4x2048x2 : Shape := ⟨3, ![4, 2048, 2]⟩
abbrev S_ : Shape := ⟨0, ![]⟩

class Facts : Prop where
  bcast_S_S4x2048x2 : S_.BroadcastsInDim S4x2048x2 (![] : Fin 0 → Fin S4x2048x2.rank)

variable [Facts]

def fn {F : FTy → Type} [FloatOps F] (main_arg0 : FVec F S4x96x384x384 .f32) (main_arg1 : FVec F S4x2048x2 .f32) (main_arg2 : IVec S_ 32) : IVec S4x2048x2 1 :=
  let main_cst : FVec F S_ .f32 := constant S_ .f32 0x3F800000#32
  let main_v0 : FVec F S4x2048x2 .f32 := broadcastInDim S4x2048x2 ![] bcast_S_S4x2048x2 main_cst
  let main_v1 : FVec F S4x2048x2 .f32 := addf main_arg1 main_v0
  let main_v2 : FVec F S_ .f32 := sitofp .f32 main_arg2
  let main_v3 : FVec F S4x2048x2 .f32 := broadcastInDim S4x2048x2 ![] bcast_S_S4x2048x2 main_v2
  let main_v4 : FVec F S4x2048x2 .f32 := Host.divf main_v1 main_v3
  let main_cst_0 : FVec F S_ .f32 := constant S_ .f32 0x3F800000#32
  let main_v5 : FVec F S4x2048x2 .f32 := broadcastInDim S4x2048x2 ![] bcast_S_S4x2048x2 main_cst_0
  let main_v6 : FVec F S4x2048x2 .f32 := subf main_v4 main_v5
  let main_cst_1 : FVec F S_ .f32 := constant S_ .f32 0x3F800000#32
  let main_v7 : FVec F S4x2048x2 .f32 := broadcastInDim S4x2048x2 ![] bcast_S_S4x2048x2 main_cst_1
  let main_v8 : IVec S4x2048x2 1 := cmpf .ole main_v6 main_v7
  main_v8
-- ==== Kernel.lean ====
abbrev S4x96x384x384 : Shape := ⟨4, ![4, 96, 384, 384]⟩
abbrev S4x2048x2 : Shape := ⟨3, ![4, 2048, 2]⟩
abbrev S_ : Shape := ⟨0, ![]⟩
abbrev S4x96x2x2 : Shape := ⟨4, ![4, 96, 2, 2]⟩
abbrev S4x96x4 : Shape := ⟨3, ![4, 96, 4]⟩
abbrev S4x4x96 : Shape := ⟨3, ![4, 4, 96]⟩
abbrev S4x2048x1 : Shape := ⟨3, ![4, 2048, 1]⟩
abbrev S4x2048 : Shape := ⟨2, ![4, 2048]⟩
abbrev S4x1x2048 : Shape := ⟨3, ![4, 1, 2048]⟩
abbrev S1x1 : Shape := ⟨2, ![1, 1]⟩
abbrev S4x96x2048 : Shape := ⟨3, ![4, 96, 2048]⟩
abbrev S1x4x96 : Shape := ⟨3, ![1, 4, 96]⟩
abbrev S1x1x2048 : Shape := ⟨3, ![1, 1, 2048]⟩
abbrev S1x96x2048 : Shape := ⟨3, ![1, 96, 2048]⟩
abbrev S1x2048 : Shape := ⟨2, ![1, 2048]⟩
abbrev S1x1x96 : Shape := ⟨3, ![1, 1, 96]⟩
abbrev S96 : Shape := ⟨1, ![96]⟩
abbrev S96x1 : Shape := ⟨2, ![96, 1]⟩
abbrev S96x2048 : Shape := ⟨2, ![96, 2048]⟩

abbrev nBuf : Space → Nat
  | .hbm => 15
  | .vmem => 8
  | .smem => 1
  | _ => 0

abbrev bufTy : (tb : Table) → Fin (tcTables nBuf tb) → BufTy
  | .hbm, ⟨0, _⟩ => ⟨S4x96x384x384, .f32⟩
  | .hbm, ⟨1, _⟩ => ⟨S4x2048x2, .f32⟩
  | .hbm, ⟨2, _⟩ => ⟨S_, .i32⟩
  | .hbm, ⟨3, _⟩ => ⟨S4x96x2x2, .f32⟩
  | .hbm, ⟨4, _⟩ => ⟨S4x96x4, .f32⟩
  | .hbm, ⟨5, _⟩ => ⟨S4x4x96, .f32⟩
  | .hbm, ⟨6, _⟩ => ⟨S4x2048x1, .f32⟩
  | .hbm, ⟨7, _⟩ => ⟨S4x2048, .f32⟩
  | .hbm, ⟨8, _⟩ => ⟨S4x1x2048, .f32⟩
  | .hbm, ⟨9, _⟩ => ⟨S4x2048x1, .f32⟩
  | .hbm, ⟨10, _⟩ => ⟨S4x2048, .f32⟩
  | .hbm, ⟨11, _⟩ => ⟨S4x1x2048, .f32⟩
  | .hbm, ⟨12, _⟩ => ⟨S_, .f32⟩
  | .hbm, ⟨13, _⟩ => ⟨S1x1, .f32⟩
  | .hbm, ⟨14, _⟩ => ⟨S4x96x2048, .f32⟩
  | .local _ .vmem, ⟨0, _⟩ => ⟨S1x4x96, .f32⟩
  | .local _ .vmem, ⟨1, _⟩ => ⟨S1x4x96, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x96x2048, .f32⟩
  | .local _ .vmem, ⟨7, _⟩ => ⟨S1x96x2048, .f32⟩
  | .local _ .smem, ⟨0, _⟩ => ⟨S1x1, .f32⟩
  | _, _ => ⟨S4x96x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x96x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x96x384x384 : Shape := ⟨4, ![4, 96, 384, 384]⟩
abbrev S4x2048x2 : Shape := ⟨3, ![4, 2048, 2]⟩
abbrev S_ : Shape := ⟨0, ![]⟩
abbrev S4x2048x1 : Shape := ⟨3, ![4, 2048, 1]⟩
abbrev S4x2048 : Shape := ⟨2, ![4, 2048]⟩
abbrev S4x96x2048 : Shape := ⟨3, ![4, 96, 2048]⟩
abbrev S4x1x2048 : Shape := ⟨3, ![4, 1, 2048]⟩

abbrev nBuf : Space → Nat
  | .hbm => 307
  | .vmem => 0
  | .smem => 0
  | _ => 0

abbrev hbmTy0_0 (i : Nat) : BufTy := match i % 128 with
  | 0 => ⟨S4x96x384x384, .f32⟩
  | 1 => ⟨S4x2048x2, .f32⟩
  | 2 => ⟨S_, .i32⟩
  | 3 => ⟨S_, .f32⟩
  | 4 => ⟨S4x2048x2, .f32⟩
  | 5 => ⟨S4x2048x2, .f32⟩
  | 6 => ⟨S_, .f32⟩
  | 7 => ⟨S4x2048x2, .f32⟩
  | 8 => ⟨S4x2048x2, .f32⟩
  | 9 => ⟨S_, .f32⟩
  | 10 => ⟨S4x2048x2, .f32⟩
  | 11 => ⟨S4x2048x2, .f32⟩
  | 12 => ⟨S4x2048x1, .f32⟩
  | 13 => ⟨S4x2048, .f32⟩
  | 14 => ⟨S_, .f32⟩
  | 15 => ⟨S4x2048, .f32⟩
  | 16 => ⟨S4x2048, .f32⟩
  | 17 => ⟨S_, .f32⟩
  | 18 => ⟨S4x2048, .f32⟩
  | 19 => ⟨S4x2048, .f32⟩
  | 20 => ⟨S_, .f32⟩
  | 21 => ⟨S4x2048, .f32⟩
  | 22 => ⟨S4x2048, .f32⟩
  | 23 => ⟨S4x2048x1, .f32⟩
  | 24 => ⟨S4x2048, .f32⟩
  | 25 => ⟨S_, .f32⟩
  | 26 => ⟨S4x2048, .f32⟩
  | 27 => ⟨S4x2048, .f32⟩
  | 28 => ⟨S_, .f32⟩
  | 29 => ⟨S4x2048, .f32⟩
  | 30 => ⟨S4x2048, .f32⟩
  | 31 => ⟨S_, .f32⟩
  | 32 => ⟨S4x2048, .f32⟩
  | 33 => ⟨S4x2048, .f32⟩
  | 34 => ⟨S_, .f32⟩
  | 35 => ⟨S4x2048, .f32⟩
  | 36 => ⟨S4x2048, .f32⟩
  | 37 => ⟨S_, .f32⟩
  | 38 => ⟨S4x2048, .f32⟩
  | 39 => ⟨S4x2048, .f32⟩
  | 40 => ⟨S_, .f32⟩
  | 41 => ⟨S4x2048, .f32⟩
  | 42 => ⟨S4x2048, .f32⟩
  | 43 => ⟨S_, .f32⟩
  | 44 => ⟨S4x2048, .f32⟩
  | 45 => ⟨S4x2048, .f32⟩
  | 46 => ⟨S_, .f32⟩
  | 47 => ⟨S4x2048, .f32⟩
  | 48 => ⟨S4x2048, .f32⟩
  | 49 => ⟨S_, .f32⟩
  | 50 => ⟨S4x2048, .f32⟩
  | 51 => ⟨S4x2048, .f32⟩
  | 52 => ⟨S4x2048, .f32⟩
  | 53 => ⟨S_, .f32⟩
  | 54 => ⟨S4x2048, .f32⟩
  | 55 => ⟨S4x2048, .f32⟩
  | 56 => ⟨S4x2048, .f32⟩
  | 57 => ⟨S_, .f32⟩
  | 58 => ⟨S4x2048, .f32⟩
  | 59 => ⟨S4x2048, .f32⟩
  | 60 => ⟨S4x2048, .f32⟩
  | 61 => ⟨S_, .f32⟩
  | 62 => ⟨S4x2048, .f32⟩
  | 63 => ⟨S4x2048, .f32⟩
  | 64 => ⟨S4x2048, .f32⟩
  | 65 => ⟨S_, .f32⟩
  | 66 => ⟨S4x2048, .f32⟩
  | 67 => ⟨S4x2048, .f32⟩
  | 68 => ⟨S_, .f32⟩
  | 69 => ⟨S4x2048, .f32⟩
  | 70 => ⟨S4x2048, .i1⟩
  | 71 => ⟨S_, .f32⟩
  | 72 => ⟨S4x2048, .f32⟩
  | 73 => ⟨S4x2048, .i1⟩
  | 74 => ⟨S4x2048, .i1⟩
  | 75 => ⟨S_, .f32⟩
  | 76 => ⟨S4x2048, .f32⟩
  | 77 => ⟨S4x2048, .i1⟩
  | 78 => ⟨S4x2048, .i1⟩
  | 79 => ⟨S_, .f32⟩
  | 80 => ⟨S4x2048, .f32⟩
  | 81 => ⟨S4x2048, .i1⟩
  | 82 => ⟨S4x2048, .i1⟩
  | 83 => ⟨S4x2048, .f32⟩
  | 84 => ⟨S_, .i32⟩
  | 85 => ⟨S_, .i32⟩
  | 86 => ⟨S_, .f32⟩
  | 87 => ⟨S4x2048, .f32⟩
  | 88 => ⟨S4x2048, .f32⟩
  | 89 => ⟨S_, .f32⟩
  | 90 => ⟨S4x2048, .f32⟩
  | 91 => ⟨S4x2048, .f32⟩
  | 92 => ⟨S4x2048, .i32⟩
  | 93 => ⟨S_, .i32⟩
  | 94 => ⟨S_, .i32⟩
  | 95 => ⟨S_, .f32⟩
  | 96 => ⟨S4x2048, .f32⟩
  | 97 => ⟨S4x2048, .f32⟩
  | 98 => ⟨S_, .f32⟩
  | 99 => ⟨S4x2048, .f32⟩
  | 100 => ⟨S4x2048, .f32⟩
  | 101 => ⟨S4x2048, .i32⟩
  | 102 => ⟨S_, .i32⟩
  | 103 => ⟨S4x2048, .i32⟩
  | 104 => ⟨S4x2048, .i1⟩
  | 105 => ⟨S_, .i32⟩
  | 106 => ⟨S4x2048, .i32⟩
  | 107 => ⟨S4x2048, .i32⟩
  | 108 => ⟨S4x2048, .i32⟩
  | 109 => ⟨S_, .i32⟩
  | 110 => ⟨S4x2048, .i32⟩
  | 111 => ⟨S4x2048, .i1⟩
  | 112 => ⟨S_, .i32⟩
  | 113 => ⟨S4x2048, .i32⟩
  | 114 => ⟨S4x2048, .i32⟩
  | 115 => ⟨S4x2048, .i32⟩
  | 116 => ⟨S4x2048x1, .i32⟩
  | 117 => ⟨S4x2048x1, .i32⟩
  | 118 => ⟨S4x2048x2, .i32⟩
  | 119 => ⟨S4x96x2048, .f32⟩
  | 120 => ⟨S4x1x2048, .f32⟩
  | 121 => ⟨S_, .f32⟩
  | 122 => ⟨S4x2048, .f32⟩
  | 123 => ⟨S4x2048, .i1⟩
  | 124 => ⟨S_, .f32⟩
  | 125 => ⟨S4x2048, .f32⟩
  | 126 => ⟨S4x2048, .i1⟩
  | 127 => ⟨S4x2048, .i1⟩
  | _ => ⟨S4x96x384x384, .f32⟩

abbrev hbmTy0_1 (i : Nat) : BufTy := match i % 128 with
  | 0 => ⟨S_, .f32⟩
  | 1 => ⟨S4x2048, .f32⟩
  | 2 => ⟨S4x2048, .i1⟩
  | 3 => ⟨S4x2048, .i1⟩
  | 4 => ⟨S_, .f32⟩
  | 5 => ⟨S4x2048, .f32⟩
  | 6 => ⟨S4x2048, .i1⟩
  | 7 => ⟨S4x2048, .i1⟩
  | 8 => ⟨S4x2048, .f32⟩
  | 9 => ⟨S_, .i32⟩
  | 10 => ⟨S_, .i32⟩
  | 11 => ⟨S_, .f32⟩
  | 12 => ⟨S4x2048, .f32⟩
  | 13 => ⟨S4x2048, .f32⟩
  | 14 => ⟨S_, .f32⟩
  | 15 => ⟨S4x2048, .f32⟩
  | 16 => ⟨S4x2048, .f32⟩
  | 17 => ⟨S4x2048, .i32⟩
  | 18 => ⟨S_, .i32⟩
  | 19 => ⟨S_, .i32⟩
  | 20 => ⟨S_, .f32⟩
  | 21 => ⟨S4x2048, .f32⟩
  | 22 => ⟨S4x2048, .f32⟩
  | 23 => ⟨S_, .f32⟩
  | 24 => ⟨S4x2048, .f32⟩
  | 25 => ⟨S4x2048, .f32⟩
  | 26 => ⟨S4x2048, .i32⟩
  | 27 => ⟨S_, .i32⟩
  | 28 => ⟨S4x2048, .i32⟩
  | 29 => ⟨S4x2048, .i1⟩
  | 30 => ⟨S_, .i32⟩
  | 31 => ⟨S4x2048, .i32⟩
  | 32 => ⟨S4x2048, .i32⟩
  | 33 => ⟨S4x2048, .i32⟩
  | 34 => ⟨S_, .i32⟩
  | 35 => ⟨S4x2048, .i32⟩
  | 36 => ⟨S4x2048, .i1⟩
  | 37 => ⟨S_, .i32⟩
  | 38 => ⟨S4x2048, .i32⟩
  | 39 => ⟨S4x2048, .i32⟩
  | 40 => ⟨S4x2048, .i32⟩
  | 41 => ⟨S4x2048x1, .i32⟩
  | 42 => ⟨S4x2048x1, .i32⟩
  | 43 => ⟨S4x2048x2, .i32⟩
  | 44 => ⟨S4x96x2048, .f32⟩
  | 45 => ⟨S4x1x2048, .f32⟩
  | 46 => ⟨S_, .f32⟩
  | 47 => ⟨S4x2048, .f32⟩
  | 48 => ⟨S4x2048, .i1⟩
  | 49 => ⟨S_, .f32⟩
  | 50 => ⟨S4x2048, .f32⟩
  | 51 => ⟨S4x2048, .i1⟩
  | 52 => ⟨S4x2048, .i1⟩
  | 53 => ⟨S_, .f32⟩
  | 54 => ⟨S4x2048, .f32⟩
  | 55 => ⟨S4x2048, .i1⟩
  | 56 => ⟨S4x2048, .i1⟩
  | 57 => ⟨S_, .f32⟩
  | 58 => ⟨S4x2048, .f32⟩
  | 59 => ⟨S4x2048, .i1⟩
  | 60 => ⟨S4x2048, .i1⟩
  | 61 => ⟨S4x2048, .f32⟩
  | 62 => ⟨S_, .i32⟩
  | 63 => ⟨S_, .i32⟩
  | 64 => ⟨S_, .f32⟩
  | 65 => ⟨S4x2048, .f32⟩
  | 66 => ⟨S4x2048, .f32⟩
  | 67 => ⟨S_, .f32⟩
  | 68 => ⟨S4x2048, .f32⟩
  | 69 => ⟨S4x2048, .f32⟩
  | 70 => ⟨S4x2048, .i32⟩
  | 71 => ⟨S_, .i32⟩
  | 72 => ⟨S_, .i32⟩
  | 73 => ⟨S_, .f32⟩
  | 74 => ⟨S4x2048, .f32⟩
  | 75 => ⟨S4x2048, .f32⟩
  | 76 => ⟨S_, .f32⟩
  | 77 => ⟨S4x2048, .f32⟩
  | 78 => ⟨S4x2048, .f32⟩
  | 79 => ⟨S4x2048, .i32⟩
  | 80 => ⟨S_, .i32⟩
  | 81 => ⟨S4x2048, .i32⟩
  | 82 => ⟨S4x2048, .i1⟩
  | 83 => ⟨S_, .i32⟩
  | 84 => ⟨S4x2048, .i32⟩
  | 85 => ⟨S4x2048, .i32⟩
  | 86 => ⟨S4x2048, .i32⟩
  | 87 => ⟨S_, .i32⟩
  | 88 => ⟨S4x2048, .i32⟩
  | 89 => ⟨S4x2048, .i1⟩
  | 90 => ⟨S_, .i32⟩
  | 91 => ⟨S4x2048, .i32⟩
  | 92 => ⟨S4x2048, .i32⟩
  | 93 => ⟨S4x2048, .i32⟩
  | 94 => ⟨S4x2048x1, .i32⟩
  | 95 => ⟨S4x2048x1, .i32⟩
  | 96 => ⟨S4x2048x2, .i32⟩
  | 97 => ⟨S4x96x2048, .f32⟩
  | 98 => ⟨S4x1x2048, .f32⟩
  | 99 => ⟨S_, .f32⟩
  | 100 => ⟨S4x2048, .f32⟩
  | 101 => ⟨S4x2048, .i1⟩
  | 102 => ⟨S_, .f32⟩
  | 103 => ⟨S4x2048, .f32⟩
  | 104 => ⟨S4x2048, .i1⟩
  | 105 => ⟨S4x2048, .i1⟩
  | 106 => ⟨S_, .f32⟩
  | 107 => ⟨S4x2048, .f32⟩
  | 108 => ⟨S4x2048, .i1⟩
  | 109 => ⟨S4x2048, .i1⟩
  | 110 => ⟨S_, .f32⟩
  | 111 => ⟨S4x2048, .f32⟩
  | 112 => ⟨S4x2048, .i1⟩
  | 113 => ⟨S4x2048, .i1⟩
  | 114 => ⟨S4x2048, .f32⟩
  | 115 => ⟨S_, .i32⟩
  | 116 => ⟨S_, .i32⟩
  | 117 => ⟨S_, .f32⟩
  | 118 => ⟨S4x2048, .f32⟩
  | 119 => ⟨S4x2048, .f32⟩
  | 120 => ⟨S_, .f32⟩
  | 121 => ⟨S4x2048, .f32⟩
  | 122 => ⟨S4x2048, .f32⟩
  | 123 => ⟨S4x2048, .i32⟩
  | 124 => ⟨S_, .i32⟩
  | 125 => ⟨S_, .i32⟩
  | 126 => ⟨S_, .f32⟩
  | 127 => ⟨S4x2048, .f32⟩
  | _ => ⟨S4x96x384x384, .f32⟩

abbrev hbmTy0_2 (i : Nat) : BufTy := match i % 128 with
  | 0 => ⟨S4x2048, .f32⟩
  | 1 => ⟨S_, .f32⟩
  | 2 => ⟨S4x2048, .f32⟩
  | 3 => ⟨S4x2048, .f32⟩
  | 4 => ⟨S4x2048, .i32⟩
  | 5 => ⟨S_, .i32⟩
  | 6 => ⟨S4x2048, .i32⟩
  | 7 => ⟨S4x2048, .i1⟩
  | 8 => ⟨S_, .i32⟩
  | 9 => ⟨S4x2048, .i32⟩
  | 10 => ⟨S4x2048, .i32⟩
  | 11 => ⟨S4x2048, .i32⟩
  | 12 => ⟨S_, .i32⟩
  | 13 => ⟨S4x2048, .i32⟩
  | 14 => ⟨S4x2048, .i1⟩
  | 15 => ⟨S_, .i32⟩
  | 16 => ⟨S4x2048, .i32⟩
  | 17 => ⟨S4x2048, .i32⟩
  | 18 => ⟨S4x2048, .i32⟩
  | 19 => ⟨S4x2048x1, .i32⟩
  | 20 => ⟨S4x2048x1, .i32⟩
  | 21 => ⟨S4x2048x2, .i32⟩
  | 22 => ⟨S4x96x2048, .f32⟩
  | 23 => ⟨S4x1x2048, .f32⟩
  | 24 => ⟨S4x2048, .f32⟩
  | 25 => ⟨S4x1x2048, .f32⟩
  | 26 => ⟨S4x2048, .f32⟩
  | 27 => ⟨S4x1x2048, .f32⟩
  | 28 => ⟨S4x2048, .f32⟩
  | 29 => ⟨S4x1x2048, .f32⟩
  | 30 => ⟨S4x2048, .f32⟩
  | 31 => ⟨S4x1x2048, .f32⟩
  | 32 => ⟨S4x96x2048, .f32⟩
  | 33 => ⟨S4x96x2048, .f32⟩
  | 34 => ⟨S4x96x2048, .f32⟩
  | 35 => ⟨S4x96x2048, .f32⟩
  | 36 => ⟨S4x96x2048, .f32⟩
  | 37 => ⟨S4x96x2048, .f32⟩
  | 38 => ⟨S4x96x2048, .f32⟩
  | 39 => ⟨S4x96x2048, .f32⟩
  | 40 => ⟨S4x96x2048, .f32⟩
  | 41 => ⟨S4x96x2048, .f32⟩
  | 42 => ⟨S4x96x2048, .f32⟩
  | 43 => ⟨S4x96x2048, .f32⟩
  | 44 => ⟨S4x96x2048, .f32⟩
  | 45 => ⟨S4x96x2048, .f32⟩
  | 46 => ⟨S4x96x2048, .f32⟩
  | 47 => ⟨S4x96x2048, .f32⟩
  | 48 => ⟨S4x96x2048, .f32⟩
  | 49 => ⟨S4x96x2048, .f32⟩
  | 50 => ⟨S4x96x2048, .f32⟩
  | _ => ⟨S4x96x384x384, .f32⟩

abbrev hbmTy (i : Nat) : BufTy := match i / 128 with
  | 0 => hbmTy0_0 i
  | 1 => hbmTy0_1 i
  | 2 => hbmTy0_2 i
  | _ => ⟨S4x96x384x384, .f32⟩

abbrev bufTy : (tb : Table) → Fin (tcTables nBuf tb) → BufTy
  | .hbm, ⟨i, _⟩ => hbmTy i
  | _, _ => ⟨S4x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_v25 : Ref sig .tc := ⟨.hbm, 38, rfl⟩
abbrev main_v26 : Ref sig .tc := ⟨.hbm, 39, rfl⟩
abbrev main_cst_9 : Ref sig .tc := ⟨.hbm, 40, rfl⟩
abbrev main_v27 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_cst_12 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_13 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_14 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_15 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_16 : Ref sig .tc := ⟨.hbm, 65, rfl⟩
abbrev main_v45 : Ref sig .tc := ⟨.hbm, 66, rfl⟩
abbrev main_v46 : Ref sig .tc := ⟨.hbm, 67, rfl⟩
abbrev main_cst_17 : Ref sig .tc := ⟨.hbm, 68, rfl⟩
abbrev main_v47 : Ref sig .tc := ⟨.hbm, 69, rfl⟩
abbrev main_v48 : Ref sig .tc := ⟨.hbm, 70, rfl⟩
abbrev main_cst_18 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_19 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_20 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c : Ref sig .tc := ⟨.hbm, 84, rfl⟩
abbrev main_c_21 : Ref sig .tc := ⟨.hbm, 85, rfl⟩
abbrev main_call0_v0 : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_v59 : Ref sig .tc := ⟨.hbm, 91, rfl⟩
abbrev main_v60 : Ref sig .tc := ⟨.hbm, 92, rfl⟩
abbrev main_c_22 : Ref sig .tc := ⟨.hbm, 93, rfl⟩
abbrev main_c_23 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_v61 : Ref sig .tc := ⟨.hbm, 100, rfl⟩
abbrev main_v62 : Ref sig .tc := ⟨.hbm, 101, rfl⟩
abbrev main_c_24 : Ref sig .tc := ⟨.hbm, 102, rfl⟩
abbrev main_v63 : Ref sig .tc := ⟨.hbm, 103, rfl⟩
abbrev main_v64 : Ref sig .tc := ⟨.hbm, 104, rfl⟩
abbrev main_c_25 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_c_26 : Ref sig .tc := ⟨.hbm, 109, rfl⟩
abbrev main_v68 : Ref sig .tc := ⟨.hbm, 110, rfl⟩
abbrev main_v69 : Ref sig .tc := ⟨.hbm, 111, rfl⟩
abbrev main_c_27 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_28 : Ref sig .tc := ⟨.hbm, 121, rfl⟩
abbrev main_v78 : Ref sig .tc := ⟨.hbm, 122, rfl⟩
abbrev main_v79 : Ref sig .tc := ⟨.hbm, 123, rfl⟩
abbrev main_cst_29 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_30 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_31 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_c_32 : Ref sig .tc := ⟨.hbm, 137, rfl⟩
abbrev main_c_33 : Ref sig .tc := ⟨.hbm, 138, rfl⟩
abbrev main_call2_v0 : Ref sig .tc := ⟨.hbm, 139, rfl⟩
abbrev main_call2_v1 : Ref sig .tc := ⟨.hbm, 140, rfl⟩
abbrev main_call2_v2 : Ref sig .tc := ⟨.hbm, 141, rfl⟩
abbrev main_call2_v3 : Ref sig .tc := ⟨.hbm, 142, rfl⟩
abbrev main_call2_v4 : Ref sig .tc := ⟨.hbm, 143, rfl⟩
abbrev main_v90 : Ref sig .tc := ⟨.hbm, 144, rfl⟩
abbrev main_v91 : Ref sig .tc := ⟨.hbm, 145, rfl⟩
abbrev main_c_34 : Ref sig .tc := ⟨.hbm, 146, rfl⟩
abbrev main_c_35 : Ref sig .tc := ⟨.hbm, 147, rfl⟩
abbrev main_call3_v0 : Ref sig .tc := ⟨.hbm, 148, rfl⟩
abbrev main_call3_v1 : Ref sig .tc := ⟨.hbm, 149, rfl⟩
abbrev main_call3_v2 : Ref sig .tc := ⟨.hbm, 150, rfl⟩
abbrev main_call3_v3 : Ref sig .tc := ⟨.hbm, 151, rfl⟩
abbrev main_call3_v4 : Ref sig .tc := ⟨.hbm, 152, rfl⟩
abbrev main_v92 : Ref sig .tc := ⟨.hbm, 153, rfl⟩
abbrev main_v93 : Ref sig .tc := ⟨.hbm, 154, rfl⟩
abbrev main_c_36 : Ref sig .tc := ⟨.hbm, 155, rfl⟩
abbrev main_v94 : Ref sig .tc := ⟨.hbm, 156, rfl⟩
abbrev main_v95 : Ref sig .tc := ⟨.hbm, 157, rfl⟩
abbrev main_c_37 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_c_38 : Ref sig .tc := ⟨.hbm, 162, rfl⟩
abbrev main_v99 : Ref sig .tc := ⟨.hbm, 163, rfl⟩
abbrev main_v100 : Ref sig .tc := ⟨.hbm, 164, rfl⟩
abbrev main_c_39 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_cst_41 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_cst_42 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_cst_43 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_c_44 : Ref sig .tc := ⟨.hbm, 190, rfl⟩
abbrev main_c_45 : Ref sig .tc := ⟨.hbm, 191, rfl⟩
abbrev main_call4_v0 : Ref sig .tc := ⟨.hbm, 192, rfl⟩
abbrev main_call4_v1 : Ref sig .tc := ⟨.hbm, 193, rfl⟩
abbrev main_call4_v2 : Ref sig .tc := ⟨.hbm, 194, rfl⟩
abbrev main_call4_v3 : Ref sig .tc := ⟨.hbm, 195, rfl⟩
abbrev main_call4_v4 : Ref sig .tc := ⟨.hbm, 196, rfl⟩
abbrev main_v121 : Ref sig .tc := ⟨.hbm, 197, rfl⟩
abbrev main_v122 : Ref sig .tc := ⟨.hbm, 198, rfl⟩
abbrev main_c_46 : Ref sig .tc := ⟨.hbm, 199, rfl⟩
abbrev main_c_47 : Ref sig .tc := ⟨.hbm, 200, rfl⟩
abbrev main_call5_v0 : Ref sig .tc := ⟨.hbm, 201, rfl⟩
abbrev main_call5_v1 : Ref sig .tc := ⟨.hbm, 202, rfl⟩
abbrev main_call5_v2 : Ref sig .tc := ⟨.hbm, 203, rfl⟩
abbrev main_call5_v3 : Ref sig .tc := ⟨.hbm, 204, rfl⟩
abbrev main_call5_v4 : Ref sig .tc := ⟨.hbm, 205, rfl⟩
abbrev main_v123 : Ref sig .tc := ⟨.hbm, 206, rfl⟩
abbrev main_v124 : Ref sig .tc := ⟨.hbm, 207, rfl⟩
abbrev main_c_48 : Ref sig .tc := ⟨.hbm, 208, rfl⟩
abbrev main_v125 : Ref sig .tc := ⟨.hbm, 209, rfl⟩
abbrev main_v126 : Ref sig .tc := ⟨.hbm, 210, rfl⟩
abbrev main_c_49 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_c_50 : Ref sig .tc := ⟨.hbm, 215, rfl⟩
abbrev main_v130 : Ref sig .tc := ⟨.hbm, 216, rfl⟩
abbrev main_v131 : Ref sig .tc := ⟨.hbm, 217, rfl⟩
abbrev main_c_51 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_cst_52 : Ref sig .tc := ⟨.hbm, 227, rfl⟩
abbrev main_v140 : Ref sig .tc := ⟨.hbm, 228, rfl⟩
abbrev main_v141 : Ref sig .tc := ⟨.hbm, 229, rfl⟩
abbrev main_cst_53 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_cst_54 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_cst_55 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_c_56 : Ref sig .tc := ⟨.hbm, 243, rfl⟩
abbrev main_c_57 : Ref sig .tc := ⟨.hbm, 244, rfl⟩
abbrev main_call6_v0 : Ref sig .tc := ⟨.hbm, 245, rfl⟩
abbrev main_call6_v1 : Ref sig .tc := ⟨.hbm, 246, rfl⟩
abbrev main_call6_v2 : Ref sig .tc := ⟨.hbm, 247, rfl⟩
abbrev main_call6_v3 : Ref sig .tc := ⟨.hbm, 248, rfl⟩
abbrev main_call6_v4 : Ref sig .tc := ⟨.hbm, 249, rfl⟩
abbrev main_v152 : Ref sig .tc := ⟨.hbm, 250, rfl⟩
abbrev main_v153 : Ref sig .tc := ⟨.hbm, 251, rfl⟩
abbrev main_c_58 : Ref sig .tc := ⟨.hbm, 252, rfl⟩
abbrev main_c_59 : Ref sig .tc := ⟨.hbm, 253, rfl⟩
abbrev main_call7_v0 : Ref sig .tc := ⟨.hbm, 254, rfl⟩
abbrev main_call7_v1 : Ref sig .tc := ⟨.hbm, 255, rfl⟩
abbrev main_call7_v2 : Ref sig .tc := ⟨.hbm, 256, rfl⟩
abbrev main_call7_v3 : Ref sig .tc := ⟨.hbm, 257, rfl⟩
abbrev main_call7_v4 : Ref sig .tc := ⟨.hbm, 258, rfl⟩
abbrev main_v154 : Ref sig .tc := ⟨.hbm, 259, rfl⟩
abbrev main_v155 : Ref sig .tc := ⟨.hbm, 260, rfl⟩
abbrev main_c_60 : Ref sig .tc := ⟨.hbm, 261, rfl⟩
abbrev main_v156 : Ref sig .tc := ⟨.hbm, 262, rfl⟩
abbrev main_v157 : Ref sig .tc := ⟨.hbm, 263, rfl⟩
abbrev main_c_61 : Ref sig .tc := ⟨.hbm, 264, rfl⟩
abbrev main_v158 : Ref sig .tc := ⟨.hbm, 265, rfl⟩
abbrev main_v159 : Ref sig .tc := ⟨.hbm, 266, rfl⟩
abbrev main_v160 : Ref sig .tc := ⟨.hbm, 267, rfl⟩
abbrev main_c_62 : Ref sig .tc := ⟨.hbm, 268, rfl⟩
abbrev main_v161 : Ref sig .tc := ⟨.hbm, 269, rfl⟩
abbrev main_v162 : Ref sig .tc := ⟨.hbm, 270, rfl⟩
abbrev main_c_63 : Ref sig .tc := ⟨.hbm, 271, rfl⟩
abbrev main_v163 : Ref sig .tc := ⟨.hbm, 272, rfl⟩
abbrev main_v164 : Ref sig .tc := ⟨.hbm, 273, rfl⟩
abbrev main_v165 : Ref sig .tc := ⟨.hbm, 274, rfl⟩
abbrev main_v166 : Ref sig .tc := ⟨.hbm, 275, rfl⟩
abbrev main_v167 : Ref sig .tc := ⟨.hbm, 276, rfl⟩
abbrev main_v168 : Ref sig .tc := ⟨.hbm, 277, rfl⟩
abbrev main_v169 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_v173 : Ref sig .tc := ⟨.hbm, 282, rfl⟩
abbrev main_v174 : Ref sig .tc := ⟨.hbm, 283, rfl⟩
abbrev main_v175 : Ref sig .tc := ⟨.hbm, 284, rfl⟩
abbrev main_v176 : Ref sig .tc := ⟨.hbm, 285, rfl⟩
abbrev main_v177 : Ref sig .tc := ⟨.hbm, 286, rfl⟩
abbrev main_v178 : Ref sig .tc := ⟨.hbm, 287, rfl⟩
abbrev main_v179 : Ref sig .tc := ⟨.hbm, 288, rfl⟩
abbrev main_v180 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_v184 : Ref sig .tc := ⟨.hbm, 293, rfl⟩
abbrev main_v185 : Ref sig .tc := ⟨.hbm, 294, rfl⟩
abbrev main_v186 : Ref sig .tc := ⟨.hbm, 295, rfl⟩
abbrev main_v187 : Ref sig .tc := ⟨.hbm, 296, rfl⟩
abbrev main_v188 : Ref sig .tc := ⟨.hbm, 297, rfl⟩
abbrev main_v189 : Ref sig .tc := ⟨.hbm, 298, rfl⟩
abbrev main_v190 : Ref sig .tc := ⟨.hbm, 299, rfl⟩
abbrev main_v191 : Ref sig .tc := ⟨.hbm, 300, rfl⟩
abbrev main_v192 : Ref sig .tc := ⟨.hbm, 301, rfl⟩
abbrev main_v193 : Ref sig .tc := ⟨.hbm, 302, rfl⟩
abbrev main_v194 : Ref sig .tc := ⟨.hbm, 303, rfl⟩
abbrev main_v195 : Ref sig .tc := ⟨.hbm, 304, rfl⟩
abbrev main_v196 : Ref sig .tc := ⟨.hbm, 305, rfl⟩
abbrev main_v197 : Ref sig .tc := ⟨.hbm, 306, rfl⟩

abbrev nD : Nat := 1
abbrev τ : Topo := Topo.v7x

variable {F : FTy → Type} [FloatOps F]
-- ==== Proof.Bilinear.Corner.lean ====
module

public import Idealize.ShloMosaic.Lib.IdealHost
public import Idealize.ShloMosaic.PureOps.Ideal.Laws

/-!
# Bilinear interpolation in the first cell, on the extended reals

Scalar definitions shared by the kernel and the reference, and the identity between the two ways of
forming the interpolated value: adding four weighted samples, one per cell corner around the sampling
position, or weighting the four entries of the image's first 2 × 2 cell.
-/

@[expose] public section

noncomputable section

open Idealize.ShloMosaic

namespace Cert.Bilinear

/-! ## The constants -/

/-- The pattern of the constant two. -/
theorem two_bits : Ideal.ofBits .f32 0x40000000#32 = ((2 : ℝ) : EReal) := by
  simp [Ideal.ofBits, Ideal.ieee, -EReal.coe_mul]; norm_num

/-- The pattern of the constant one half. -/
theorem half_bits : Ideal.ofBits .f32 0x3F000000#32 = ((1 / 2 : ℝ) : EReal) := by
  simp [Ideal.ofBits, Ideal.ieee, -EReal.coe_mul]; norm_num

/-- The pattern of the constant 383, the largest pixel index. -/
theorem last_bits : Ideal.ofBits .f32 0x43BF8000#32 = ((383 : ℝ) : EReal) := by
  simp [Ideal.ofBits, Ideal.ieee, -EReal.coe_mul]; norm_num

/-! ## The scalar steps both programs share -/

/-- The control point `c` scaled down by `s`. -/
def scaled (c s : EReal) : EReal := Ideal.div (c + 1) s - 1

/-- The pixel position of the scaled point `t`: into [-1, 1] coordinates and back. -/
def pos (t : EReal) : EReal :=
  (Ideal.div (Ideal.ofBits .f32 0x40000000#32 * t) (Ideal.ofBits .f32 0x43BF8000#32) - 1 + 1)
    * Ideal.ofBits .f32 0x3F000000#32 * Ideal.ofBits .f32 0x43BF8000#32

/-- The pixel below a position. -/
def below (x : EReal) : EReal := Ideal.liftRound Int.floor x

/-- The weight of the pixel above: the position's distance from the pixel below. -/
def frac (x : EReal) : EReal := x - below x

/-- The bit that says whether the pixel `(xf, yf)` lies in the image. -/
def insideBit (xf yf : EReal) : BitVec 1 :=
  Ideal.cmp .oge xf 0 &&& Ideal.cmp .ole xf (Ideal.ofBits .f32 0x43BF8000#32)
    &&& Ideal.cmp .oge yf 0 &&& Ideal.cmp .ole yf (Ideal.ofBits .f32 0x43BF8000#32)

/-- That bit as a factor, zero or one. -/
def mask (xf yf : EReal) : EReal := (((insideBit xf yf).toNat : ℝ) : EReal)

/-- A pixel coordinate clipped to the first cell. -/
def clip (x : EReal) : EReal := min 1 (max 0 x)

/-- The index, as a word, that the reference reads for a pixel coordinate. -/
def indexWord (x : EReal) : BitVec 32 :=
  Ideal.fptosi 32 (min (((383#32 : BitVec 32).toInt : ℝ) : EReal) (max (((0#32 : BitVec 32).toInt : ℝ) : EReal) x))

/-- That word after the wrap-around of negative indices. -/
def wrapped (w : BitVec 32) : BitVec 32 :=
  Scalar.select (IntOp.cmpi .slt w 0#32) (w + 384#32) w

/-- A word's pixel index, held inside the image. -/
def pixel (w : BitVec 32) : Fin 384 := ⟨min w.toInt.toNat 383, by omega⟩

/-- The pixel index the reference reads for a coordinate. -/
def sampleAt (x : EReal) : Fin 384 := pixel (wrapped (indexWord x))

/-! ## The position -/

/-- Going to [-1, 1] coordinates and back is the identity on a finite point. -/
theorem pos_coe (r : ℝ) : pos (r : EReal) = (r : EReal) := by
  unfold pos
  rw [two_bits, half_bits, last_bits, Ideal.div_coe (by norm_num)]
  rw [show (1 : EReal) = ((1 : ℝ) : EReal) by norm_cast]
  norm_cast
  ring

/-- The position does not pass one when the scaled point does not. -/
theorem pos_le_one {t : EReal} (h : t ≤ 1) : pos t ≤ 1 := by
  induction t with
  | bot =>
    unfold pos
    rw [two_bits, half_bits, last_bits, Ideal.div_coe (by norm_num),
      EReal.coe_mul_bot_of_pos (by norm_num), EReal.bot_mul_coe_of_pos (by norm_num)]
    rw [show (⊥ : EReal) - 1 + 1 = ⊥ from rfl, EReal.bot_mul_coe_of_pos (by norm_num),
      EReal.bot_mul_coe_of_pos (by norm_num)]
    exact bot_le
  | coe r => rwa [pos_coe]
  | top => exact absurd h (by decide)

/-! ## The weights along one axis -/

/-- What the weight `w` of a pixel coordinate `p` along one axis satisfies in the first cell. -/
def AxisOk (p w : EReal) : Prop := 0 ≤ p → 0 ≤ w ∧ (w = 0 ∨ p = 0 ∨ p = 1)

/-- A position up to one whose pixel below is finite is a real number up to one. -/
theorem below_cases {x : EReal} (h : x ≤ 1) : (below x = ⊥) ∨ ∃ r : ℝ, x = r ∧ r ≤ 1 ∧ below x = ((⌊r⌋ : ℝ) : EReal) := by
  induction x with
  | bot => exact Or.inl rfl
  | coe r => exact Or.inr ⟨r, rfl, by exact_mod_cast h, rfl⟩
  | top => exact absurd h (by decide)

/-- The pixel below and its weight. -/
theorem axisOk_below {x : EReal} (h : x ≤ 1) : AxisOk (below x) (1 - frac x) := by
  intro h0
  rcases below_cases h with hb | ⟨r, rfl, hr, hb⟩
  · rw [hb] at h0; exact absurd h0 (by decide)
  · rw [hb] at h0
    have hz : (0 : ℤ) ≤ ⌊r⌋ := by exact_mod_cast h0
    have hf : ⌊r⌋ ≤ 1 := by
      have := Int.floor_le r
      have h1 : (⌊r⌋ : ℝ) ≤ 1 := le_trans this hr
      exact_mod_cast h1
    have hl : r < ⌊r⌋ + 1 := Int.lt_floor_add_one r
    unfold frac
    rw [hb]
    refine ⟨?_, Or.inr ?_⟩
    · rw [show (1 : EReal) = ((1 : ℝ) : EReal) by norm_cast]
      have : (0 : ℝ) ≤ 1 - (r - ⌊r⌋) := by linarith
      exact_mod_cast this
    · have : ⌊r⌋ = 0 ∨ ⌊r⌋ = 1 := by omega
      rcases this with h | h <;> rw [h] <;> simp

/-- The pixel above and its weight. -/
theorem axisOk_above {x : EReal} (h : x ≤ 1) : AxisOk (below x + 1) (frac x) := by
  intro h0
  rcases below_cases h with hb | ⟨r, rfl, hr, hb⟩
  · rw [hb] at h0; exact absurd h0 (by decide)
  · rw [hb] at h0
    rw [show (1 : EReal) = ((1 : ℝ) : EReal) by norm_cast] at h0
    have hz : (0 : ℤ) ≤ ⌊r⌋ + 1 := by exact_mod_cast h0
    have hfl := Int.floor_le r
    have hf : ⌊r⌋ ≤ 1 := by
      have h1 : (⌊r⌋ : ℝ) ≤ 1 := le_trans hfl hr
      exact_mod_cast h1
    unfold frac
    rw [hb]
    refine ⟨?_, ?_⟩
    · have : (0 : ℝ) ≤ r - ⌊r⌋ := by linarith
      exact_mod_cast this
    · have : ⌊r⌋ = -1 ∨ ⌊r⌋ = 0 ∨ ⌊r⌋ = 1 := by omega
      rcases this with h | h | h
      · right; left; rw [h, show (1 : EReal) = ((1 : ℝ) : EReal) by norm_cast]; norm_cast
      · right; right; rw [h]; simp
      · left
        rw [h] at hfl ⊢
        have : r = 1 := le_antisymm hr (by exact_mod_cast hfl)
        rw [this]
        norm_cast

/-! ## Pixels of the first cell -/

/-- The word read at a whole coordinate of the image is that number. -/
theorem indexWord_natCast (k : ℕ) (hk : k ≤ 383) : indexWord ((k : ℝ) : EReal) = BitVec.ofInt 32 k := by
  have h0 : (0 : ℝ) ≤ k := Nat.cast_nonneg k
  have h1 : (k : ℝ) ≤ 383 := by exact_mod_cast hk
  have e383 : (((383#32 : BitVec 32).toInt : ℝ) : EReal) = ((383 : ℝ) : EReal) := by
    rw [show (383#32 : BitVec 32).toInt = 383 by decide]; norm_num
  have e0 : (((0#32 : BitVec 32).toInt : ℝ) : EReal) = ((0 : ℝ) : EReal) := by
    rw [show (0#32 : BitVec 32).toInt = 0 by decide]; norm_num
  unfold indexWord Ideal.fptosi
  rw [e383, e0, max_eq_right (by exact_mod_cast h0), min_eq_right (by exact_mod_cast h1), Ideal.toIntClamped_coe,
    if_pos h0, Int.floor_natCast]
  congr 1
  norm_num
  omega

/-- The reference reads pixel 0 at coordinate zero. -/
theorem sampleAt_zero : sampleAt 0 = 0 := by
  have h : indexWord 0 = 0#32 := by simpa using indexWord_natCast 0 (by omega)
  rw [sampleAt, h]
  decide +kernel

/-- The reference reads pixel 1 at coordinate one. -/
theorem sampleAt_one : sampleAt 1 = 1 := by
  have h : indexWord 1 = 1#32 := by simpa using indexWord_natCast 1 (by omega)
  rw [sampleAt, h]
  decide +kernel

/-- The factor is zero, or it is one and both coordinates are not negative. -/
theorem mask_cases (xf yf : EReal) : mask xf yf = 0 ∨ (mask xf yf = 1 ∧ 0 ≤ xf ∧ 0 ≤ yf) := by
  by_cases hx : 0 ≤ xf
  · by_cases hy : 0 ≤ yf
    · have : insideBit xf yf = 0#1 ∨ insideBit xf yf = 1#1 := by
        generalize insideBit xf yf = b
        revert b; decide
      rcases this with h | h
      · left; simp [mask, h]
      · right; simp [mask, h, hx, hy]
    · left; simp [mask, insideBit, Ideal.cmp, hy]
  · left; simp [mask, insideBit, Ideal.cmp, hx]

/-! ## One corner -/

/-- What one corner adds to an entry's coefficient: its masked weight times that entry's factors `u` and `v`. -/
def coef (xf yf w u v : EReal) : EReal := mask xf yf * w * u * v

/-- One weighted sample of the reference is the kernel's combination of the four entries, and the
kernel's four coefficients are not negative. -/
theorem corner (G : Fin 384 → Fin 384 → EReal) {xf yf wx wy : EReal} (hx : AxisOk xf wx) (hy : AxisOk yf wy) :
    (G (sampleAt yf) (sampleAt xf) * mask xf yf * (wy * wx)
      = G 0 0 * coef xf yf (wy * wx) (1 - clip xf) (1 - clip yf) + G 0 1 * coef xf yf (wy * wx) (clip xf) (1 - clip yf)
        + G 1 0 * coef xf yf (wy * wx) (1 - clip xf) (clip yf) + G 1 1 * coef xf yf (wy * wx) (clip xf) (clip yf))
    ∧ 0 ≤ coef xf yf (wy * wx) (1 - clip xf) (1 - clip yf) ∧ 0 ≤ coef xf yf (wy * wx) (clip xf) (1 - clip yf)
    ∧ 0 ≤ coef xf yf (wy * wx) (1 - clip xf) (clip yf) ∧ 0 ≤ coef xf yf (wy * wx) (clip xf) (clip yf) := by
  have c0 : clip 0 = 0 := by simp [clip]
  have c1 : clip 1 = 1 := by simp [clip]
  have s0 : (1 : EReal) - 1 = 0 := by
    rw [show (1 : EReal) = ((1 : ℝ) : EReal) by norm_cast]; norm_cast
  unfold coef
  rcases mask_cases xf yf with hm | ⟨hm, hx0, hy0⟩
  · rw [hm]; simp
  · obtain ⟨hwx, cx⟩ := hx hx0
    obtain ⟨hwy, cy⟩ := hy hy0
    have hw : 0 ≤ wy * wx := mul_nonneg hwy hwx
    rw [hm]
    rcases cx with rfl | rfl | rfl
    · simp
    all_goals
      rcases cy with rfl | rfl | rfl
      · simp
      all_goals simp [c0, c1, s0, hw, sampleAt_zero, sampleAt_one]

/-! ## The two interpolations -/

/-- The reference: the four weighted samples around the position `(x, y)`. -/
def bySamples (G : Fin 384 → Fin 384 → EReal) (x y : EReal) : EReal :=
  G (sampleAt (below y)) (sampleAt (below x)) * mask (below x) (below y) * ((1 - frac y) * (1 - frac x))
    + G (sampleAt (below y)) (sampleAt (below x + 1)) * mask (below x + 1) (below y) * ((1 - frac y) * frac x)
    + G (sampleAt (below y + 1)) (sampleAt (below x)) * mask (below x) (below y + 1) * (frac y * (1 - frac x))
    + G (sampleAt (below y + 1)) (sampleAt (below x + 1)) * mask (below x + 1) (below y + 1) * (frac y * frac x)

/-- The kernel's coefficient of one entry: over the four corners, the factor pair given by `u` of the
horizontal and `v` of the vertical coordinate. -/
def total (u v : EReal → EReal) (x y : EReal) : EReal :=
  0 + coef (below x) (below y) ((1 - frac y) * (1 - frac x)) (u (below x)) (v (below y))
    + coef (below x + 1) (below y) ((1 - frac y) * frac x) (u (below x + 1)) (v (below y))
    + coef (below x) (below y + 1) (frac y * (1 - frac x)) (u (below x)) (v (below y + 1))
    + coef (below x + 1) (below y + 1) (frac y * frac x) (u (below x + 1)) (v (below y + 1))

/-- The kernel: the first cell's four entries, weighted. -/
def byEntries (f00 f01 f10 f11 x y : EReal) : EReal :=
  f00 * total (fun p => 1 - clip p) (fun p => 1 - clip p) x y + f01 * total clip (fun p => 1 - clip p) x y
    + f10 * total (fun p => 1 - clip p) clip x y + f11 * total clip clip x y

/-- A factor distributes over a sum that starts at zero and has four further terms, none negative. -/
theorem mul_four {f a b c d : EReal} (ha : 0 ≤ a) (hb : 0 ≤ b) (hc : 0 ≤ c) (hd : 0 ≤ d) :
    f * (0 + a + b + c + d) = f * a + f * b + f * c + f * d := by
  rw [zero_add, EReal.left_distrib_of_nonneg (add_nonneg (add_nonneg ha hb) hc) hd,
    EReal.left_distrib_of_nonneg (add_nonneg ha hb) hc, EReal.left_distrib_of_nonneg ha hb]

/-- In the first cell the two interpolations agree. -/
theorem byEntries_eq_bySamples (G : Fin 384 → Fin 384 → EReal) {x y : EReal} (hx : x ≤ 1) (hy : y ≤ 1) :
    byEntries (G 0 0) (G 0 1) (G 1 0) (G 1 1) x y = bySamples G x y := by
  obtain ⟨e1, a1, b1, c1, d1⟩ := corner G (axisOk_below hx) (axisOk_below hy)
  obtain ⟨e2, a2, b2, c2, d2⟩ := corner G (axisOk_above hx) (axisOk_below hy)
  obtain ⟨e3, a3, b3, c3, d3⟩ := corner G (axisOk_below hx) (axisOk_above hy)
  obtain ⟨e4, a4, b4, c4, d4⟩ := corner G (axisOk_above hx) (axisOk_above hy)
  unfold byEntries bySamples total
  rw [e1, e2, e3, e4, mul_four a1 a2 a3 a4, mul_four b1 b2 b3 b4, mul_four c1 c2 c3 c4, mul_four d1 d2 d3 d4]
  ac_rfl

end Cert.Bilinear
-- ==== Proof.Bilinear.Kernel.lean ====
module

public import proofs.«01_k».proof.Proof.Gen.KernelIdeal.Value
public import Idealize.ShloMosaic.Lib.Pipeline.ValueKit
public import Idealize.ShloMosaic.Lib.Pointwise
public import Idealize.ShloMosaic.Lib.Claim
public import proofs.«01_k».proof.Proof.Bilinear.Corner

/-!
# What the kernel computes

One block reads the scale, two rows of coordinates and the four entries of the image's first cell, and stores
`Cert.Bilinear.byEntries` of them. The blocks, one per batch entry, fill the output array, which ends as `OUT` of the
three arguments.
-/

@[expose] public section

set_option maxRecDepth 16384

noncomputable section

open Idealize.ShloMosaic Idealize.ShloMosaic.TcCoe Idealize.SL.Sem
open Idealize.ShloMosaic.Pipeline (Dat)

namespace Cert.KernelIdeal.Bilinear

open Cert.KernelIdeal Cert.KernelIdeal.Gen Cert.Bilinear

variable (m : (ℓ : Loc nD τ sig) → Buf (Elt Ideal) ℓ)

/-- A bit widened to a word and read as a signed number is the bit read as an unsigned number. -/
theorem widened (b : BitVec 1) :
    FloatOps.sitofp (F := Ideal) FTy.f32 (BitVec.setWidth 32 b) = (((b.toNat : ℝ)) : EReal) := by
  have h : (b.setWidth 32).toInt = (b.toNat : ℤ) := by revert b; decide
  show (((b.setWidth 32).toInt : ℝ) : EReal) = _
  rw [h, Int.cast_natCast]

/-- The horizontal positions. -/
theorem pay2_at (s : EReal) (v : FVec Ideal S1x1x2048 .f32) (n : Fin 2048) :
    k0_pay2 (F := Ideal) s v (ix2 0 n) = pos (scaled (v (ix3 0 0 n)) s) := by
  pointwise [k0_pay2, pos, scaled]

/-- The vertical positions. -/
theorem pay4_at (s : EReal) (v : FVec Ideal S1x1x2048 .f32) (n : Fin 2048) :
    k0_pay4 (F := Ideal) (k0_pay3 (F := Ideal) s v) (ix2 0 n) = pos (scaled (v (ix3 0 0 n)) s) := by
  pointwise [k0_pay3, k0_pay4, pos, scaled]

section Columns

variable (u v w : FVec Ideal S1x2048 .f32) (n : Fin 2048)

/-- The pixel left of a position. -/
theorem pay5_at : k0_pay5 (F := Ideal) u (ix2 0 n) = below (u (ix2 0 n)) := by pointwise [k0_pay5, below]
/-- The pixel above a position. -/
theorem pay6_at : k0_pay6 (F := Ideal) v (ix2 0 n) = below (k0_pay4 (F := Ideal) v (ix2 0 n)) := by
  pointwise [k0_pay6, below]
/-- The pixel right of a position. -/
theorem pay7_at : k0_pay7 (F := Ideal) u (ix2 0 n) = below (u (ix2 0 n)) + 1 := by pointwise [k0_pay7, pay5_at]
/-- The pixel under a position. -/
theorem pay8_at : k0_pay8 (F := Ideal) v (ix2 0 n) = below (k0_pay4 (F := Ideal) v (ix2 0 n)) + 1 := by
  pointwise [k0_pay8, pay6_at]
/-- The horizontal distance from the left pixel. -/
theorem pay9_at : k0_pay9 (F := Ideal) u (ix2 0 n) = frac (u (ix2 0 n)) := by pointwise [k0_pay9, pay5_at, frac]
/-- The vertical distance from the upper pixel. -/
theorem pay11_at : k0_pay11 (F := Ideal) v (ix2 0 n) = frac (k0_pay4 (F := Ideal) v (ix2 0 n)) := by
  pointwise [k0_pay11, pay6_at, frac]

/-- The masked weight of the upper left corner. -/
theorem pay19_at : k0_pay19 (F := Ideal) u v (ix2 0 n)
    = mask (below (u (ix2 0 n))) (below (k0_pay4 (F := Ideal) v (ix2 0 n)))
      * ((1 - frac (k0_pay4 (F := Ideal) v (ix2 0 n))) * (1 - frac (u (ix2 0 n)))) := by
  pointwise [k0_pay19, k0_pay12, k0_pay10, pay5_at, pay6_at, pay9_at, pay11_at]
  exact congrArg (· * _) (widened _)

/-- The masked weight of the upper right corner. -/
theorem pay27_at : k0_pay27 (F := Ideal) u v w (ix2 0 n) = mask (v (ix2 0 n)) (u (ix2 0 n)) * w (ix2 0 n) := by
  pointwise [k0_pay27]
  exact congrArg (· * w (ix2 0 n)) (widened _)

/-- The masked weight of the lower left corner. -/
theorem pay34_at : k0_pay34 (F := Ideal) u v w (ix2 0 n) = mask (u (ix2 0 n)) (v (ix2 0 n)) * w (ix2 0 n) := by
  pointwise [k0_pay34]
  exact congrArg (· * w (ix2 0 n)) (widened _)

/-- The masked weight of the lower right corner. -/
theorem pay41_at : k0_pay41 (F := Ideal) u v w (ix2 0 n) = mask (u (ix2 0 n)) (v (ix2 0 n)) * w (ix2 0 n) := by
  pointwise [k0_pay41]
  exact congrArg (· * w (ix2 0 n)) (widened _)

end Columns

/-- Where each operand's block lies: the scale's is the same at every step, the others' is the step's batch entry. -/
theorem idx_val : ∀ t : Fin cfg0.N, win0_0.index t = ![0, 0] ∧ win0_1.index t = ![t.val, 0, 0]
    ∧ win0_2.index t = ![t.val, 0, 0] ∧ win0_3.index t = ![t.val, 0, 0] ∧ win0_4.index t = ![t.val, 0, 0] :=
  (by decide +kernel : ∀ t : Fin grid0.N, _)

/-- What one block stores, as a function of the scale, the two coordinate rows and the four entry rows. -/
def stored (s : EReal) (cx cy : FVec Ideal S1x1x2048 .f32) (f00 f01 f10 f11 : FVec Ideal S1x1x96 .f32) :
    FVec Ideal S1x96x2048 .f32 :=
  let u := k0_pay2 (F := Ideal) s cx
  let v := k0_pay3 (F := Ideal) s cy
  let l := k0_pay5 u
  let r := k0_pay7 u
  let a := k0_pay6 v
  let b := k0_pay8 v
  let w0 := k0_pay19 u v
  let w1 := k0_pay27 a r (k0_pay14 u v)
  let w2 := k0_pay34 l b (k0_pay15 u v)
  k0_pay1 (F := Ideal)
    (k0_pay37 (k0_pay30 (k0_pay23 k0_pay13 (k0_pay17 u) (k0_pay18 v) w0) (k0_pay25 r) (k0_pay26 a) w1)
      (k0_pay32 l) (k0_pay33 b) w2)
    (k0_pay38 (k0_pay31 (k0_pay24 k0_pay13 (k0_pay17 u) (k0_pay18 v) w0) (k0_pay25 r) (k0_pay26 a) w1)
      (k0_pay32 l) (k0_pay33 b) w2)
    (k0_pay39 r) (k0_pay40 b) (k0_pay41 r b (k0_pay16 u v))
    (k0_pay42 r b (k0_pay16 u v) (k0_pay35 l b (k0_pay15 u v)
      (k0_pay21 k0_pay13 (k0_pay17 u) (k0_pay18 v) w0 k0_pay20) (k0_pay28 a r (k0_pay14 u v))))
    (k0_pay43 r b (k0_pay16 u v) (k0_pay29 (k0_pay22 k0_pay13 (k0_pay17 u) (k0_pay18 v) w0) (k0_pay25 r) (k0_pay26 a) w1)
      (k0_pay36 l b (k0_pay15 u v)))
    (k0_pay44 r b (k0_pay16 u v)) f00 f01 f10 f11

/-- An entry of the block: the first cell's four entries weighted at the two positions. -/
theorem stored_at (s : EReal) (cx cy : FVec Ideal S1x1x2048 .f32) (f00 f01 f10 f11 : FVec Ideal S1x1x96 .f32)
    (c : Fin 96) (n : Fin 2048) :
    stored s cx cy f00 f01 f10 f11 (ix3 0 c n)
      = byEntries (f00 (ix3 0 0 c)) (f01 (ix3 0 0 c)) (f10 (ix3 0 0 c)) (f11 (ix3 0 0 c))
          (pos (scaled (cx (ix3 0 0 n)) s)) (pos (scaled (cy (ix3 0 0 n)) s)) := by
  pointwise [stored, k0_pay1, k0_pay10, k0_pay12, k0_pay13, k0_pay14, k0_pay15, k0_pay16, k0_pay17, k0_pay18, k0_pay20,
    k0_pay21, k0_pay22, k0_pay23, k0_pay24, k0_pay25, k0_pay26, k0_pay28, k0_pay29, k0_pay30, k0_pay31, k0_pay32,
    k0_pay33, k0_pay35, k0_pay36, k0_pay37, k0_pay38, k0_pay39, k0_pay40, k0_pay42, k0_pay43, k0_pay44,
    pay5_at, pay6_at, pay7_at, pay8_at, pay9_at, pay11_at, pay19_at, pay27_at, pay34_at, pay41_at, pay2_at, pay4_at,
    byEntries, total, coef, clip]

/-- The array the kernel leaves, as a function of the image, the control points and the scale. -/
def OUT (X0 : FVec Ideal S4x96x384x384 .f32) (X1 : FVec Ideal S4x2048x2 .f32) (X2 : IVec S_ 32) :
    FVec Ideal S4x96x2048 .f32 := fun j =>
  byEntries (X0 (ix4 (j 0) (j 1) 0 0)) (X0 (ix4 (j 0) (j 1) 0 1)) (X0 (ix4 (j 0) (j 1) 1 0)) (X0 (ix4 (j 0) (j 1) 1 1))
    (pos (scaled (X1 (ix3 (j 0) (j 2) 0)) (FloatOps.sitofp (F := Ideal) .f32 (X2 ix0))))
    (pos (scaled (X1 (ix3 (j 0) (j 2) 1)) (FloatOps.sitofp (F := Ideal) .f32 (X2 ix0))))

/-- The number of blocks is the batch size. -/
theorem lt_four (t : Fin cfg0.N) : t.val < 4 := lt_of_lt_of_eq t.isLt (by decide +kernel)

/-- The scale the region finds: the integer argument as a number. -/
theorem V_scale (c : Dev nD) :
    V m c main_v10 (ix2 0 0) = FloatOps.sitofp (F := Ideal) .f32 (m ((c : Thread nD τ).loc main_arg2) ix0) := by
  entry_read
  pointwise

/-- The entries the region finds: the image's first cell, row by row. -/
theorem V_entries (c : Dev nD) (b : Fin 4) (k : Fin 4) (n : Fin 96) :
    V m c main_v2 (ix3 b k n)
      = m ((c : Thread nD τ).loc main_arg0) (ix4 b n ⟨k.val / 2, by omega⟩ ⟨k.val % 2, by omega⟩) := by
  entry_read
  pointwise

/-- The horizontal coordinates the region finds. -/
theorem V_x (c : Dev nD) (b : Fin 4) (n : Fin 2048) :
    V m c main_v5 (ix3 b 0 n) = m ((c : Thread nD τ).loc main_arg1) (ix3 b n 0) := by
  entry_read
  pointwise

/-- The vertical coordinates the region finds. -/
theorem V_y (c : Dev nD) (b : Fin 4) (n : Fin 2048) :
    V m c main_v8 (ix3 b 0 n) = m ((c : Thread nD τ).loc main_arg1) (ix3 b n 1) := by
  entry_read
  pointwise

/-- A step reads the scale. -/
theorem iblk0 (c : Dev nD) (t : Fin cfg0.N) :
    iblk m c 0 t (ix2 0 0) = V m c main_v10 (ix2 0 0) := by
  blk_ext [iblk, idx_val t]

/-- A step reads its batch entry's four entries. -/
theorem iblk1 (c : Dev nD) (t : Fin cfg0.N) (k : Fin 4) (n : Fin 96) :
    iblk m c 1 t (ix3 0 k n) = V m c main_v2 (ix3 ⟨t.val, lt_four t⟩ k n) := by
  blk_ext [iblk, idx_val t]

/-- A step reads its batch entry's horizontal coordinates. -/
theorem iblk2 (c : Dev nD) (t : Fin cfg0.N) (n : Fin 2048) :
    iblk m c 2 t (ix3 0 0 n) = V m c main_v5 (ix3 ⟨t.val, lt_four t⟩ 0 n) := by
  blk_ext [iblk, idx_val t]

/-- A step reads its batch entry's vertical coordinates. -/
theorem iblk3 (c : Dev nD) (t : Fin cfg0.N) (n : Fin 2048) :
    iblk m c 3 t (ix3 0 0 n) = V m c main_v8 (ix3 ⟨t.val, lt_four t⟩ 0 n) := by
  blk_ext [iblk, idx_val t]

/-- A step's output block is its batch entry of the output array. -/
theorem out_at (t : Fin cfg0.N) (y1 : Fin 96) (y2 : Fin 2048) :
    (win0_4.blk t).view.emb (ix3 0 y1 y2) = (ix3 ⟨t.val, lt_four t⟩ y1 y2 : S4x96x2048.Idx) := by
  blk_ext [idx_val t]

/-- The output array after all the steps is `OUT` of the arguments. -/
theorem final (c : Dev nD) : (dats m 0 c).arrAt 4 (cfgs 0).N
    = OUT (m ((c : Thread nD τ).loc main_arg0)) (m ((c : Thread nD τ).loc main_arg1))
      (m ((c : Thread nD τ).loc main_arg2)) := by
  refine (dats m 0 c).arrAt_eq_of_covers 4 _ (by decide +kernel) fun t _ y => ?_
  blk_simp
  rw [after0_4]
  unfold outsAt0
  frame_out
  idx_vars y
  obtain rfl : y0 = 0 := by omega
  refine (stored_at _ _ _ _ _ _ _ y1 y2).trans ?_
  pointwise
  blk_simp
  rw [iblk1, iblk1, iblk1, iblk1, iblk2, iblk3, iblk0, V_entries, V_entries, V_entries, V_entries, V_x, V_y,
    V_scale, out_at]
  rfl

end Cert.KernelIdeal.Bilinear
-- ==== Proof.Bilinear.Gather.lean ====
module

public import proofs.«01_k».proof.Proof.Gen.ReferenceIdeal.Run
public import Idealize.ShloMosaic.Lib.Pointwise
public import proofs.«01_k».proof.Proof.Bilinear.Corner

/-!
# Reading the image at a table of pixels

The reference's gather takes, for each control point, the image entry of every channel at the pixel that two index
words name.
-/

@[expose] public section

set_option maxRecDepth 16384

noncomputable section

open Idealize.ShloMosaic Idealize.ShloMosaic.TcCoe Idealize.SL.Sem

namespace Cert.ReferenceIdeal.Bilinear

open Cert.ReferenceIdeal Cert.ReferenceIdeal.Gen Cert.Bilinear

/-- The place in the index array from which the gather takes component `k` of the pixel of an output entry. -/
theorem component_at (b : Fin 4) (c : Fin 96) (n : Fin 2048) (k : Fin 2) :
    gather_S4x96x384x384_S4x2048x2_S4x96x2048_1_23_0_0_23_2_19611.siIdx (ix3 b c n) k = ix3 b n k := by
  funext a
  fin_cases a <;> apply Fin.ext
  all_goals
    simp [GatherDims.siIdx, GatherDims.siCoord, Shape.kept, List.idxOf_cons,
      gather_S4x96x384x384_S4x2048x2_S4x96x2048_1_23_0_0_23_2_19611]
  all_goals rfl

/-- A sample of the reference: the gather reads the image at the two index words, each held inside it. -/
theorem gather_at (x : FVec Ideal S4x96x384x384 .f32) (idx : IVec S4x2048x2 32) (b : Fin 4) (c : Fin 96) (n : Fin 2048) :
    Host.gather gather_S4x96x384x384_S4x2048x2_S4x96x2048_1_23_0_0_23_2_19611 x idx (ix3 b c n)
      = x (ix4 b c (pixel (idx (ix3 b n 0))) (pixel (idx (ix3 b n 1)))) := by
  rw [← component_at b c n 0, ← component_at b c n 1]
  unfold Host.gather
  congr 1
  funext a
  fin_cases a
  all_goals
    apply Fin.ext
    simp [GatherDims.operandIdx, GatherDims.start, GatherDims.batchCoord, GatherDims.offCoord,
      GatherDims.siCoord, Shape.kept, List.idxOf_cons, pixel,
      gather_S4x96x384x384_S4x2048x2_S4x96x2048_1_23_0_0_23_2_19611]
  all_goals rfl

end Cert.ReferenceIdeal.Bilinear
-- ==== Proof.Bilinear.Reference.lean ====
module

public import proofs.«01_k».proof.Proof.Bilinear.Gather
public import Idealize.ShloMosaic.Lib.Tactic.CleanTypes

/-!
# What the reference computes

Each entry of the reference's result is the sum of four weighted samples of the image around the
sampling position.
-/

@[expose] public section

set_option maxRecDepth 16384

noncomputable section

open Idealize.ShloMosaic Idealize.ShloMosaic.TcCoe Idealize.SL.Sem

namespace Cert.ReferenceIdeal.Bilinear

open Cert.ReferenceIdeal Cert.ReferenceIdeal.Gen Cert.ReferenceIdeal.Value Cert.Bilinear

/-- One weighted sample for every control point: the image read at the index words `vx`, `vy`, times the
mask of the pixel coordinates `xf`, `yf`, times the product of the weights `wy`, `wx`. -/
def sample (X : FVec Ideal S4x96x384x384 .f32) (vx vy : IVec S4x2048 32) (xf yf wx wy : FVec Ideal S4x2048 .f32) :
    FVec Ideal S4x96x2048 .f32 :=
  mulf (mulf (Host.gather gather_S4x96x384x384_S4x2048x2_S4x96x2048_1_23_0_0_23_2_19611 X
      (concatenate S4x2048x2 2
        [⟨S4x2048x1, broadcastInDim S4x2048x1 ![0, 1] bcast_S4x2048_S4x2048x1_0_1
          (select (cmpi .slt vy (broadcastInDim S4x2048 ![] bcast_S_S4x2048 (constantI S_ 32 0#32)))
            (addi vy (broadcastInDim S4x2048 ![] bcast_S_S4x2048 (constantI S_ 32 384#32))) vy)⟩,
         ⟨S4x2048x1, broadcastInDim S4x2048x1 ![0, 1] bcast_S4x2048_S4x2048x1_0_1
          (select (cmpi .slt vx (broadcastInDim S4x2048 ![] bcast_S_S4x2048 (constantI S_ 32 0#32)))
            (addi vx (broadcastInDim S4x2048 ![] bcast_S_S4x2048 (constantI S_ 32 384#32))) vx)⟩]
        concatenates_S4x2048x1_S4x2048x1_S4x2048x2_d2))
    (broadcastInDim S4x96x2048 ![0, 1, 2] bcast_S4x1x2048_S4x96x2048_0_1_2
      (broadcastInDim S4x1x2048 ![0, 2] bcast_S4x2048_S4x1x2048_0_2
        (uitofp .f32 (andi (andi (andi
          (cmpf .oge xf (broadcastInDim S4x2048 ![] bcast_S_S4x2048 (constant S_ .f32 0x00000000#32)))
          (cmpf .ole xf (broadcastInDim S4x2048 ![] bcast_S_S4x2048 (constant S_ .f32 0x43BF8000#32))))
          (cmpf .oge yf (broadcastInDim S4x2048 ![] bcast_S_S4x2048 (constant S_ .f32 0x00000000#32))))
          (cmpf .ole yf (broadcastInDim S4x2048 ![] bcast_S_S4x2048 (constant S_ .f32 0x43BF8000#32))))))))
    (broadcastInDim S4x96x2048 ![0, 1, 2] bcast_S4x1x2048_S4x96x2048_0_1_2
      (broadcastInDim S4x1x2048 ![0, 2] bcast_S4x2048_S4x1x2048_0_2 (mulf wy wx)))

/-- An entry of a weighted sample. -/
theorem sample_at (X : FVec Ideal S4x96x384x384 .f32) (vx vy : IVec S4x2048 32) (xf yf wx wy : FVec Ideal S4x2048 .f32)
    (b : Fin 4) (c : Fin 96) (n : Fin 2048) :
    sample X vx vy xf yf wx wy (ix3 b c n)
      = X (ix4 b c (pixel (wrapped (vy (ix2 b n)))) (pixel (wrapped (vx (ix2 b n)))))
        * mask (xf (ix2 b n)) (yf (ix2 b n)) * (wy (ix2 b n) * wx (ix2 b n)) := by
  pointwise [sample, gather_at]
  rfl

variable (V0 : Valuation τ sig (Elt Ideal))

/-- The reference's result: the four samples added. -/
def REF : FVec Ideal S4x96x2048 .f32 :=
  addf (res_main_v192 V0) (sample (V0 (Proc.devRef .tc main_arg0)) (res_main_v153 V0) (res_main_v155 V0)
    (res_main_v37 V0) (res_main_v40 V0) (res_main_v41 V0) (res_main_v44 V0))

/-- The first three samples: upper left, upper right and lower left. -/
theorem v192_eq : res_main_v192 V0
    = addf (addf
      (sample (V0 (Proc.devRef .tc main_arg0))
        (res_main_v60 V0) (res_main_v62 V0) (res_main_v35 V0) (res_main_v38 V0) (res_main_v43 V0) (res_main_v46 V0))
      (sample (V0 (Proc.devRef .tc main_arg0))
        (res_main_v91 V0) (res_main_v93 V0) (res_main_v37 V0) (res_main_v38 V0) (res_main_v41 V0) (res_main_v46 V0)))
      (sample (V0 (Proc.devRef .tc main_arg0))
        (res_main_v122 V0) (res_main_v124 V0) (res_main_v35 V0) (res_main_v40 V0) (res_main_v43 V0) (res_main_v44 V0)) := rfl

/-- The image as the reference reads it. -/
abbrev img : FVec Ideal S4x96x384x384 .f32 := V0 (Proc.devRef .tc main_arg0)
/-- The control points as the reference reads them. -/
abbrev pts : FVec Ideal S4x2048x2 .f32 := V0 (Proc.devRef .tc main_arg1)
/-- The scale as the reference reads it. -/
abbrev scl : IVec S_ 32 := V0 (Proc.devRef .tc main_arg2)

/-- The horizontal position of a control point. -/
def px (b : Fin 4) (n : Fin 2048) : EReal := pos (scaled (pts V0 (ix3 b n 0)) (FloatOps.sitofp (F := Ideal) .f32 (scl V0 ix0)))
/-- The vertical position of a control point. -/
def py (b : Fin 4) (n : Fin 2048) : EReal := pos (scaled (pts V0 (ix3 b n 1)) (FloatOps.sitofp (F := Ideal) .f32 (scl V0 ix0)))

section Rows

variable (b : Fin 4) (n : Fin 2048)

/-- The horizontal positions. -/
theorem v28_at : (res_main_v28 V0 : FVec Ideal S4x2048 .f32) (ix2 b n) = px V0 b n := by
  unfold res_main_v28 res_main_v6
  clean_types
  pointwise [px, pos, scaled, pts, scl]

/-- The vertical positions. -/
theorem v34_at : (res_main_v34 V0 : FVec Ideal S4x2048 .f32) (ix2 b n) = py V0 b n := by
  unfold res_main_v34 res_main_v6
  clean_types
  pointwise [py, pos, scaled, pts, scl]

/-- The pixel left of a position. -/
theorem v35_at : (res_main_v35 V0 : FVec Ideal S4x2048 .f32) (ix2 b n) = below (px V0 b n) := by
  unfold res_main_v35
  clean_types
  pointwise [v28_at]
  rfl

/-- The pixel right of a position. -/
theorem v37_at : (res_main_v37 V0 : FVec Ideal S4x2048 .f32) (ix2 b n) = below (px V0 b n) + 1 := by
  unfold res_main_v37
  clean_types
  pointwise [v35_at]

/-- The pixel above a position. -/
theorem v38_at : (res_main_v38 V0 : FVec Ideal S4x2048 .f32) (ix2 b n) = below (py V0 b n) := by
  unfold res_main_v38
  clean_types
  pointwise [v34_at]
  rfl

/-- The pixel under a position. -/
theorem v40_at : (res_main_v40 V0 : FVec Ideal S4x2048 .f32) (ix2 b n) = below (py V0 b n) + 1 := by
  unfold res_main_v40
  clean_types
  pointwise [v38_at]

/-- The weight of the right pixel. -/
theorem v41_at : (res_main_v41 V0 : FVec Ideal S4x2048 .f32) (ix2 b n) = frac (px V0 b n) := by
  unfold res_main_v41
  clean_types
  pointwise [v28_at, v35_at, frac]

/-- The weight of the left pixel. -/
theorem v43_at : (res_main_v43 V0 : FVec Ideal S4x2048 .f32) (ix2 b n) = 1 - frac (px V0 b n) := by
  unfold res_main_v43
  clean_types
  pointwise [v41_at]

/-- The weight of the lower pixel. -/
theorem v44_at : (res_main_v44 V0 : FVec Ideal S4x2048 .f32) (ix2 b n) = frac (py V0 b n) := by
  unfold res_main_v44
  clean_types
  pointwise [v34_at, v38_at, frac]

/-- The weight of the upper pixel. -/
theorem v46_at : (res_main_v46 V0 : FVec Ideal S4x2048 .f32) (ix2 b n) = 1 - frac (py V0 b n) := by
  unfold res_main_v46
  clean_types
  pointwise [v44_at]

/-- The horizontal index word of the upper left corner. -/
theorem v60_at : (res_main_v60 V0 : IVec S4x2048 32) (ix2 b n) = indexWord (below (px V0 b n)) := by
  unfold res_main_v60
  clean_types
  pointwise [v35_at]
  rfl

/-- The vertical index word of the upper left corner. -/
theorem v62_at : (res_main_v62 V0 : IVec S4x2048 32) (ix2 b n) = indexWord (below (py V0 b n)) := by
  unfold res_main_v62
  clean_types
  pointwise [v38_at]
  rfl

/-- The horizontal index word of the upper right corner. -/
theorem v91_at : (res_main_v91 V0 : IVec S4x2048 32) (ix2 b n) = indexWord (below (px V0 b n) + 1) := by
  unfold res_main_v91
  clean_types
  pointwise [v37_at]
  rfl

/-- The vertical index word of the upper right corner. -/
theorem v93_at : (res_main_v93 V0 : IVec S4x2048 32) (ix2 b n) = indexWord (below (py V0 b n)) := by
  unfold res_main_v93
  clean_types
  pointwise [v38_at]
  rfl

/-- The horizontal index word of the lower left corner. -/
theorem v122_at : (res_main_v122 V0 : IVec S4x2048 32) (ix2 b n) = indexWord (below (px V0 b n)) := by
  unfold res_main_v122
  clean_types
  pointwise [v35_at]
  rfl

/-- The vertical index word of the lower left corner. -/
theorem v124_at : (res_main_v124 V0 : IVec S4x2048 32) (ix2 b n) = indexWord (below (py V0 b n) + 1) := by
  unfold res_main_v124
  clean_types
  pointwise [v40_at]
  rfl

/-- The horizontal index word of the lower right corner. -/
theorem v153_at : (res_main_v153 V0 : IVec S4x2048 32) (ix2 b n) = indexWord (below (px V0 b n) + 1) := by
  unfold res_main_v153
  clean_types
  pointwise [v37_at]
  rfl

/-- The vertical index word of the lower right corner. -/
theorem v155_at : (res_main_v155 V0 : IVec S4x2048 32) (ix2 b n) = indexWord (below (py V0 b n) + 1) := by
  unfold res_main_v155
  clean_types
  pointwise [v40_at]
  rfl

end Rows

/-- An entry of the reference's result: the image's samples around the position of its control point. -/
theorem REF_at (b : Fin 4) (c : Fin 96) (n : Fin 2048) :
    REF V0 (ix3 b c n) = bySamples (fun r k => img V0 (ix4 b c r k)) (px V0 b n) (py V0 b n) := by
  unfold REF
  rw [v192_eq]
  pointwise [sample_at, v35_at, v37_at, v38_at, v40_at, v41_at, v43_at, v44_at, v46_at, v60_at, v62_at, v91_at, v93_at,
    v122_at, v124_at, v153_at, v155_at]
  rfl

end Cert.ReferenceIdeal.Bilinear
-- ==== Proof.Bilinear.Equation.lean ====
module

public import proofs.«01_k».proof.Defs
public import proofs.«01_k».proof.Proof.Bilinear.Kernel
public import proofs.«01_k».proof.Proof.Bilinear.Reference

/-!
# The kernel's array is the reference's

The precondition says that every scaled coordinate is at most one, so every sampling position lies at or before the
far edge of the image's first cell, where the kernel's four entries are all that the reference's samples can meet.
-/

@[expose] public section

set_option maxRecDepth 16384

noncomputable section

open Idealize.ShloMosaic Idealize.ShloMosaic.TcCoe Idealize.SL.Sem

namespace Cert.Bilinear

/-- The side condition of the precondition's program: a scalar spreads over the control points. -/
theorem facts_pre : Cert.Pre_in_first_cell.Facts := ⟨by decide⟩

/-- The precondition at one coordinate of one control point. -/
theorem pre_at [Cert.Pre_in_first_cell.Facts] (X0 : FVec Ideal Cert.Pre_in_first_cell.S4x96x384x384 .f32)
    (X1 : FVec Ideal Cert.Pre_in_first_cell.S4x2048x2 .f32) (X2 : IVec Cert.Pre_in_first_cell.S_ 32)
    (h : Cert.Pre_in_first_cell.fn (F := Ideal) X0 X1 X2 = fun _ => 1#1) (b : Fin 4) (n : Fin 2048) (k : Fin 2) :
    scaled (X1 (ix3 b n k)) (FloatOps.sitofp (F := Ideal) .f32 (X2 ix0)) ≤ 1 := by
  have h1 := congrFun h (ix3 b n k)
  pointwise [Cert.Pre_in_first_cell.fn] at h1
  unfold scaled
  by_contra hn
  rw [decide_eq_false hn] at h1
  exact absurd h1 (by decide)

/-- The reference's result is the kernel's array for the same arguments, when every scaled coordinate is at most one. -/
theorem REF_eq_OUT (V0 : Valuation Cert.ReferenceIdeal.τ Cert.ReferenceIdeal.sig (Elt Ideal))
    (X0 : FVec Ideal Cert.KernelIdeal.S4x96x384x384 .f32) (X1 : FVec Ideal Cert.KernelIdeal.S4x2048x2 .f32)
    (X2 : IVec Cert.KernelIdeal.S_ 32) (h0 : Cert.ReferenceIdeal.Bilinear.img V0 = X0)
    (h1 : Cert.ReferenceIdeal.Bilinear.pts V0 = X1) (h2 : Cert.ReferenceIdeal.Bilinear.scl V0 = X2)
    (h : ∀ (b : Fin 4) (n : Fin 2048) (k : Fin 2),
      scaled (X1 (ix3 b n k)) (FloatOps.sitofp (F := Ideal) .f32 (X2 ix0)) ≤ 1) :
    Cert.ReferenceIdeal.Bilinear.REF V0 = Cert.KernelIdeal.Bilinear.OUT X0 X1 X2 := by
  subst h0 h1 h2
  refine funext fun (j : Cert.ReferenceIdeal.S4x96x2048.Idx) => ?_
  idx_vars j
  refine (Cert.ReferenceIdeal.Bilinear.REF_at V0 j0 j1 j2).trans ?_
  unfold Cert.ReferenceIdeal.Bilinear.px Cert.ReferenceIdeal.Bilinear.py
  rw [← byEntries_eq_bySamples (fun r k => Cert.ReferenceIdeal.Bilinear.img V0 (ix4 j0 j1 r k))
    (pos_le_one (h j0 j2 0)) (pos_le_one (h j0 j2 1))]
  rfl

end Cert.Bilinear
-- ==== Proof.lean ====
/-
The certificate of the bilinear window kernel.

`claim` assembles the claims of `proofs.«01_k».proof.Defs`: each program runs to the end with its arguments and
semaphores as they were, the idealized kernel is the kernel's own text, and the kernel's result is the reference's on
extended reals when every scaled control point lies at or before the far edge of the image's first cell.

The modules under `Proof/Bilinear`: `Corner` (the mathematics on extended reals), `Kernel` (what one block stores and
what the output array ends holding), `Gather` and `Reference` (what the reference computes at an entry), `Equation`
(the two arrays are equal).
-/
module

public import proofs.«01_k».proof.Defs
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Bilinear.Equation
public import Idealize.ShloMosaic.Adequacy
public import Idealize.ShloMosaic.Init

@[expose] public section

noncomputable section

namespace Cert.Proof

open Idealize.ShloMosaic Idealize.ShloMosaic.TcCoe Idealize.SL.Sem

/-- The kernel runs and leaves its arguments and its semaphores as they were. -/
theorem frame_kernel : Cert.quiescent_Kernel := fun m g _ => Cert.Kernel.Gen.frame m g

/-- The idealized kernel runs and leaves its arguments and its semaphores as they were. -/
theorem frame_ideal : Cert.quiescent_KernelIdeal := fun m g _ => Cert.KernelIdeal.Gen.frame m g

/-- The reference runs and leaves its arguments as they were; it has no semaphore. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- The kernel's result is the reference's, under the precondition. -/
theorem equal [Cert.Pre_in_first_cell.Facts] : Cert.algebraic_KernelIdeal_ReferenceIdeal_pre_in_first_cell := by
  intro m g m' g' hpre hagree
  let thread (c : Dev Cert.KernelIdeal.nD) := (c.tc : Thread Cert.KernelIdeal.nD Cert.KernelIdeal.τ)
  refine ⟨fun c => Cert.KernelIdeal.Bilinear.OUT (m ((thread c).loc Cert.KernelIdeal.main_arg0))
    (m ((thread c).loc Cert.KernelIdeal.main_arg1)) (m ((thread c).loc Cert.KernelIdeal.main_arg2)), ?_, ?_⟩
  · exact (θ_run Cert.KernelIdeal.defs _ _).mono
      (fun r h c => ⟨((h c).1).trans (Cert.KernelIdeal.Bilinear.final m c), (h c).2⟩)
      (Cert.KernelIdeal.Value.run_blocks m g)
  · refine (θ_run Cert.ReferenceIdeal.defs _ _).mono (fun r h c => ⟨((h c).1).trans ?_, (h c).2⟩)
      (Cert.ReferenceIdeal.Value.run (F := Ideal) m' g')
    obtain ⟨h0, h1, h2⟩ := hagree c
    exact Cert.Bilinear.REF_eq_OUT (StableHlo.launchContents m' c) _ _ _ h0 h1 h2
      (Cert.Bilinear.pre_at _ _ _ (hpre c))

/-- Every claim of the certificate. -/
theorem claim : Cert.Claim :=
  ⟨Cert.Kernel.Gen.facts, Cert.KernelIdeal.Gen.facts, Cert.ReferenceIdeal.Gen.facts, Cert.Bilinear.facts_pre,
    frame_kernel, frame_ideal, fun m g _ => frame_ideal m g trivial,
    frame_reference, fun m g _ => frame_reference m g trivial, trivial,
    @equal Cert.Bilinear.facts_pre⟩

end Cert.Proof

end
